-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S1x2x256x256x128 : Shape := ⟨5, ![1, 2, 256, 256, 128]⟩
abbrev S128x256 : Shape := ⟨2, ![128, 256]⟩
abbrev S256 : Shape := ⟨1, ![256]⟩
abbrev S_ : Shape := ⟨0, ![]⟩

class Facts : Prop where
  bcast_S_S1x2x256x256x128 : S_.BroadcastsInDim S1x2x256x256x128 (![] : Fin 0 → Fin S1x2x256x256x128.rank)
  bcast_S_S128x256 : S_.BroadcastsInDim S128x256 (![] : Fin 0 → Fin S128x256.rank)
  bcast_S_S256 : S_.BroadcastsInDim S256 (![] : Fin 0 → Fin S256.rank)

variable [Facts]

def fn {F : FTy → Type} [FloatOps F] (main_arg0 : FVec F S1x2x256x256x128 .f32) (main_arg1 : FVec F S128x256 .f32) (main_arg2 : FVec F S256 .f32) : IVec S1x2x256x256x128 1 × IVec S128x256 1 × IVec S256 1 :=
  let main_v0 : FVec F S1x2x256x256x128 .f32 := Host.absf main_arg0
  let main_cst : FVec F S_ .f32 := constant S_ .f32 0x7F800000#32
  let main_v1 : FVec F S1x2x256x256x128 .f32 := broadcastInDim S1x2x256x256x128 ![] bcast_S_S1x2x256x256x128 main_cst
  let main_v2 : IVec S1x2x256x256x128 1 := cmpf .olt main_v0 main_v1
  let main_v3 : FVec F S128x256 .f32 := Host.absf main_arg1
  let main_cst_0 : FVec F S_ .f32 := constant S_ .f32 0x7F800000#32
  let main_v4 : FVec F S128x256 .f32 := broadcastInDim S128x256 ![] bcast_S_S128x256 main_cst_0
  let main_v5 : IVec S128x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  (main_v2, main_v5, main_v8)
-- ==== Kernel.lean ====
abbrev S1x2x256x256x128 : Shape := ⟨5, ![1, 2, 256, 256, 128]⟩
abbrev S128x256 : Shape := ⟨2, ![128, 256]⟩
abbrev S256 : Shape := ⟨1, ![256]⟩
abbrev S1x256 : Shape := ⟨2, ![1, 256]⟩
abbrev S256x256x256 : Shape := ⟨3, ![256, 256, 256]⟩
abbrev S1x1x32x256x128 : Shape := ⟨5, ![1, 1, 32, 256, 128]⟩
abbrev S1x1x256x32x128 : Shape := ⟨5, ![1, 1, 256, 32, 128]⟩
abbrev S32x256x256 : Shape := ⟨3, ![32, 256, 256]⟩
abbrev S32x256x128 : Shape := ⟨3, ![32, 256, 128]⟩
abbrev S256x32x128 : Shape := ⟨3, ![256, 32, 128]⟩
abbrev S32x128x128 : Shape := ⟨3, ![32, 128, 128]⟩
abbrev S32x128x256 : Shape := ⟨3, ![32, 128, 256]⟩
abbrev S128 : Shape := ⟨1, ![128]⟩
abbrev S1x128x1 : Shape := ⟨3, ![1, 128, 1]⟩
abbrev S1x1x256 : Shape := ⟨3, ![1, 1, 256]⟩
abbrev S1x128x256 : Shape := ⟨3, ![1, 128, 256]⟩
abbrev S32x128 : Shape := ⟨2, ![32, 128]⟩
abbrev S32x256 : Shape := ⟨2, ![32, 256]⟩
abbrev S1 : Shape := ⟨1, ![1]⟩
abbrev S1x1 : Shape := ⟨2, ![1, 1]⟩
abbrev S32x1x256 : Shape := ⟨3, ![32, 1, 256]⟩
abbrev S1x256x256x256 : Shape := ⟨4, ![1, 256, 256, 256]⟩

abbrev nBuf : Space → Nat
  | .hbm => 6
  | .vmem => 8
  | .smem => 0
  | _ => 0

abbrev bufTy : (tb : Table) → Fin (tcTables nBuf tb) → BufTy
  | .hbm, ⟨0, _⟩ => ⟨S1x2x256x256x128, .f32⟩
  | .hbm, ⟨1, _⟩ => ⟨S128x256, .f32⟩
  | .hbm, ⟨2, _⟩ => ⟨S256, .f32⟩
  | .hbm, ⟨3, _⟩ => ⟨S1x256, .f32⟩
  | .hbm, ⟨4, _⟩ => ⟨S256x256x256, .f32⟩
  | .hbm, ⟨5, _⟩ => ⟨S1x256x256x256, .f32⟩
  | .local _ .vmem, ⟨0, _⟩ => ⟨S1x1x32x256x128, .f32⟩
  | .local _ .vmem, ⟨1, _⟩ => ⟨S1x1x32x256x128, .f32⟩
  | .local _ .vmem, ⟨2, _⟩ => ⟨S1x1x256x32x128, .f32⟩
  | .local _ .vmem, ⟨3, _⟩ => ⟨S1x1x256x32x128, .f32⟩
  | .local _ .vmem, ⟨4, _⟩ => ⟨S128x256, .f32⟩
  | .local _ .vmem, ⟨5, _⟩ => ⟨S1x256, .f32⟩
  | .local _ .vmem, ⟨6, _⟩ => ⟨S32x256x256, .f32⟩
  | .local _ .vmem, ⟨7, _⟩ => ⟨S32x256x256, .f32⟩
  | _, _ => ⟨S1x2x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x2x256x256x128 : Shape := ⟨5, ![1, 2, 256, 256, 128]⟩
abbrev S128x256 : Shape := ⟨2, ![128, 256]⟩
abbrev S256 : Shape := ⟨1, ![256]⟩
abbrev S2x1x256x256x128 : Shape := ⟨5, ![2, 1, 256, 256, 128]⟩
abbrev S1x1x256x256x128 : Shape := ⟨5, ![1, 1, 256, 256, 128]⟩
abbrev S1x256x256x128 : Shape := ⟨4, ![1, 256, 256, 128]⟩
abbrev S1x256x256x256 : Shape := ⟨4, ![1, 256, 256, 256]⟩
abbrev S1x1x1x256 : Shape := ⟨4, ![1, 1, 1, 256]⟩
abbrev S256x256x256 : Shape := ⟨3, ![256, 256, 256]⟩

abbrev nBuf : Space → Nat
  | .hbm => 21
  | .vmem => 0
  | .smem => 0
  | _ => 0

abbrev bufTy : (tb : Table) → Fin (tcTables nBuf tb) → BufTy
  | .hbm, ⟨0, _⟩ => ⟨S1x2x256x256x128, .f32⟩
  | .hbm, ⟨1, _⟩ => ⟨S128x256, .f32⟩
  | .hbm, ⟨2, _⟩ => ⟨S256, .f32⟩
  | .hbm, ⟨3, _⟩ => ⟨S2x1x256x256x128, .f32⟩
  | .hbm, ⟨4, _⟩ => ⟨S1x1x256x256x128, .f32⟩
  | .hbm, ⟨5, _⟩ => ⟨S1x256x256x128, .f32⟩
  | .hbm, ⟨6, _⟩ => ⟨S1x1x256x256x128, .f32⟩
  | .hbm, ⟨7, _⟩ => ⟨S1x256x256x128, .f32⟩
  | .hbm, ⟨8, _⟩ => ⟨S1x256x256x256, .f32⟩
  | .hbm, ⟨9, _⟩ => ⟨S1x1x1x256, .f32⟩
  | .hbm, ⟨10, _⟩ => ⟨S1x256x256x256, .f32⟩
  | .hbm, ⟨11, _⟩ => ⟨S1x256x256x256, .f32⟩
  | .hbm, ⟨12, _⟩ => ⟨S1x256x256x256, .f32⟩
  | .hbm, ⟨13, _⟩ => ⟨S1x1x1x256, .f32⟩
  | .hbm, ⟨14, _⟩ => ⟨S1x256x256x256, .f32⟩
  | .hbm, ⟨15, _⟩ => ⟨S1x256x256x256, .f32⟩
  | .hbm, ⟨16, _⟩ => ⟨S1x256x256x256, .f32⟩
  | .hbm, ⟨17, _⟩ => ⟨S256x256x256, .f32⟩
  | .hbm, ⟨18, _⟩ => ⟨S256x256x256, .f32⟩
  | .hbm, ⟨19, _⟩ => ⟨S256x256x256, .f32⟩
  | .hbm, ⟨20, _⟩ => ⟨S1x256x256x256, .f32⟩
  | _, _ => ⟨S1x2x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Proof.Payload.lean ====
/- What one grid point of the kernel stores, read at an index: at `Ideal` the payload of the body's one store is a closed
   sum of products of the entries of the four blocks it loads. -/
module

public import proofs.«01_k».proof.Proof.Gen.KernelIdeal.Skeleton
public import Idealize.ShloMosaic.Lib.Pointwise

@[expose] public section

noncomputable section

namespace Cert.KernelIdeal.Outer

open Cert.KernelIdeal Cert.KernelIdeal.Gen Idealize.ShloMosaic
open scoped BigOperators

variable (W : Vec Ideal S128x256 .f32) (b : Vec Ideal S1x256 .f32) (X : Vec Ideal S1x1x32x256x128 .f32)
  (Y : Vec Ideal S1x1x256x32x128 .f32)

/-- The batched product at an index: row `(r, j)` of the first block against the regrouped right factor, which is the
    second block contracted with `W` twice plus the row sums of `W` times the bias. -/
theorem product_apply (r : Fin 32) (j c : Fin 256) :
    k0_pay5 W b X Y (ix3 r j c)
      = ∑ f : Fin 128, X (ix5 0 0 r j f)
          * ((∑ g : Fin 128, (∑ k : Fin 256, Y (ix5 0 0 k r g) * W (ix2 f k)) * W (ix2 g c))
              + (∑ k : Fin 256, W (ix2 f k)) * b (ix2 0 c)) := by
  pointwise [k0_pay5, k0_pay4, k0_pay2, k0_pay3]

/-- The bias row at an index: it does not depend on `j`. -/
theorem biasRow_apply (r : Fin 32) (j c : Fin 256) :
    k0_pay6 W b Y (ix3 r j c)
      = (∑ g : Fin 128, (∑ k : Fin 256, b (ix2 0 k) * Y (ix5 0 0 k r g)) * W (ix2 g c))
          + (∑ k : Fin 256, b (ix2 0 k)) * b (ix2 0 c) := by
  pointwise [k0_pay6, k0_pay4, k0_pay2, k0_pay3]

/-- The stored block at an index: the sum of the two. -/
theorem stored_apply (r : Fin 32) (j c : Fin 256) :
    k0_pay1 (k0_pay5 W b X Y) (k0_pay6 W b Y) (ix3 r j c)
      = ∑ f : Fin 128, X (ix5 0 0 r j f)
          * ((∑ g : Fin 128, (∑ k : Fin 256, Y (ix5 0 0 k r g) * W (ix2 f k)) * W (ix2 g c))
              + (∑ k : Fin 256, W (ix2 f k)) * b (ix2 0 c))
        + ((∑ g : Fin 128, (∑ k : Fin 256, b (ix2 0 k) * Y (ix5 0 0 k r g)) * W (ix2 g c))
          + (∑ k : Fin 256, b (ix2 0 k)) * b (ix2 0 c)) := by
  rw [← product_apply, ← biasRow_apply]
  rfl

end Cert.KernelIdeal.Outer

end
-- ==== Proof.KernelValue.lean ====
/- The kernel's result after the run. Every grid point writes back its 32 rows of one whole-array function of the
   arguments, the eight blocks cover the array, and the one host operation after the region puts a unit axis in front. -/
module

public import proofs.«01_k».proof.Proof.Gen.KernelIdeal.Frame
public import proofs.«01_k».proof.Proof.Payload
public import Idealize.ShloMosaic.Lib.Pipeline.Value
public import Idealize.ShloMosaic.Lib.StableHlo.Run

@[expose] public section

noncomputable section

namespace Cert.KernelIdeal.Outer

open Cert.KernelIdeal Cert.KernelIdeal.Gen Idealize.ShloMosaic Idealize.ShloMosaic.TcCoe Idealize.SL.Sem
open Idealize.ShloMosaic.Pipeline (Dat)
open scoped BigOperators

/-- The kernel's value at `(i, j, c)`, from the three arguments: the raw score regrouped, the left affine map
    applied last. -/
def value (x : Vec Ideal S1x2x256x256x128 .f32) (W : Vec Ideal S128x256 .f32) (b : Vec Ideal S256 .f32) (i j c : Fin 256) : EReal :=
  ∑ f : Fin 128, x (ix5 0 0 i j f)
      * ((∑ g : Fin 128, (∑ k : Fin 256, x (ix5 0 1 k i g) * W (ix2 f k)) * W (ix2 g c))
          + (∑ k : Fin 256, W (ix2 f k)) * b (ix1 c))
    + ((∑ g : Fin 128, (∑ k : Fin 256, b (ix1 k) * x (ix5 0 1 k i g)) * W (ix2 g c))
      + (∑ k : Fin 256, b (ix1 k)) * b (ix1 c))

variable (m : (ℓ : Loc nD τ sig) → Buf (Elt Ideal) ℓ) (ρ : Dev nD → PrngReg)

/-- The whole output array of the region on device `c`. -/
def spread (c : Dev nD) : Buf (Elt Ideal) ((c : Thread nD τ).loc main_v1) :=
  fun i : S256x256x256.Idx => value (m ((c : Thread nD τ).loc main_arg0)) (m ((c : Thread nD τ).loc main_arg1))
    (m ((c : Thread nD τ).loc main_arg2)) (i 0) (i 1) (i 2)

/-! ## The blocks the body loads, at an index -/

/-- A row of a 32-row block, as a row of the array. -/
def row (t : Fin grid0.N) (r : Fin 32) : Fin 256 :=
  ⟨t.val * 32 + r.val, by have h : t.val < grid0.N := t.isLt; have hN := N_0; have hr := r.isLt; omega⟩

/-- Window 0's block index at every point: block `t` of the rows of the first slice. -/
theorem index0 : ∀ t : Fin grid0.N, win0_0.index t 0 = 0 ∧ win0_0.index t 1 = 0 ∧ win0_0.index t 2 = t.val
    ∧ win0_0.index t 3 = 0 ∧ win0_0.index t 4 = 0 := by decide +kernel
/-- Window 1's: block `t` of the columns of the second slice. -/
theorem index1 : ∀ t : Fin grid0.N, win0_1.index t 0 = 0 ∧ win0_1.index t 1 = 1 ∧ win0_1.index t 2 = 0
    ∧ win0_1.index t 3 = t.val ∧ win0_1.index t 4 = 0 := by decide +kernel
/-- Window 2's: the one block of `W`. -/
theorem index2 : ∀ t : Fin grid0.N, win0_2.index t 0 = 0 ∧ win0_2.index t 1 = 0 := by decide +kernel
/-- Window 3's: the one block of the bias row. -/
theorem index3 : ∀ t : Fin grid0.N, win0_3.index t 0 = 0 ∧ win0_3.index t 1 = 0 := by decide +kernel
/-- Window 4's: block `t` of the rows of the output array. -/
theorem index4 : ∀ t : Fin grid0.N, win0_4.index t 0 = t.val ∧ win0_4.index t 1 = 0 ∧ win0_4.index t 2 = 0 := by decide +kernel

/-- Window 0 at point `t`: the left slice's rows of block `t`. -/
theorem block0_apply (c : Dev nD) (t : Fin cfg0.N) (r : Fin 32) (j : Fin 256) (f : Fin 128) :
    iblk m c 0 t (ix5 0 0 r j f) = m ((c : Thread nD τ).loc main_arg0) (ix5 0 0 (row t r) j f) := by
  show V m c main_arg0 ((win0_0.rect t).emb (ix5 0 0 r j f)) = _
  rw [V_main_arg0]
  congr 1
  obtain ⟨h0, h1, h2, h3, h4⟩ := index0 t
  funext a
  apply Fin.ext
  rw [win0_0.rect_emb_val]
  match a with
  | ⟨0, _⟩ => show win0_0.index t 0 * 1 + 0 = 0; rw [h0]
  | ⟨1, _⟩ => show win0_0.index t 1 * 1 + 0 = 0; rw [h1]
  | ⟨2, _⟩ => show win0_0.index t 2 * 32 + r.val = t.val * 32 + r.val; rw [h2]
  | ⟨3, _⟩ => show win0_0.index t 3 * 256 + j.val = j.val; rw [h3]; omega
  | ⟨4, _⟩ => show win0_0.index t 4 * 128 + f.val = f.val; rw [h4]; omega

/-- Window 1 at point `t`: the right slice's columns of block `t`. -/
theorem block1_apply (c : Dev nD) (t : Fin cfg0.N) (k : Fin 256) (r : Fin 32) (g : Fin 128) :
    iblk m c 1 t (ix5 0 0 k r g) = m ((c : Thread nD τ).loc main_arg0) (ix5 0 1 k (row t r) g) := by
  show V m c main_arg0 ((win0_1.rect t).emb (ix5 0 0 k r g)) = _
  rw [V_main_arg0]
  congr 1
  obtain ⟨h0, h1, h2, h3, h4⟩ := index1 t
  funext a
  apply Fin.ext
  rw [win0_1.rect_emb_val]
  match a with
  | ⟨0, _⟩ => show win0_1.index t 0 * 1 + 0 = 0; rw [h0]
  | ⟨1, _⟩ => show win0_1.index t 1 * 1 + 0 = 1; rw [h1]
  | ⟨2, _⟩ => show win0_1.index t 2 * 256 + k.val = k.val; rw [h2]; omega
  | ⟨3, _⟩ => show win0_1.index t 3 * 32 + r.val = t.val * 32 + r.val; rw [h3]
  | ⟨4, _⟩ => show win0_1.index t 4 * 128 + g.val = g.val; rw [h4]; omega

/-- Window 2 at every point: the whole of `W`. -/
theorem block2_apply (c : Dev nD) (t : Fin cfg0.N) (f : Fin 128) (k : Fin 256) :
    iblk m c 2 t (ix2 f k) = m ((c : Thread nD τ).loc main_arg1) (ix2 f k) := by
  show V m c main_arg1 ((win0_2.rect t).emb (ix2 f k)) = _
  rw [V_main_arg1]
  congr 1
  obtain ⟨h0, h1⟩ := index2 t
  funext a
  apply Fin.ext
  rw [win0_2.rect_emb_val]
  match a with
  | ⟨0, _⟩ => show win0_2.index t 0 * 128 + f.val = f.val; rw [h0]; omega
  | ⟨1, _⟩ => show win0_2.index t 1 * 256 + k.val = k.val; rw [h1]; omega

/-- The region finds the bias as one row: the host line before it only reshapes. -/
theorem V_main_v0 (c : Dev nD) :
    V m c main_v0 = shapeCast S1x256 (m ((c : Thread nD τ).loc main_arg2)) shapeCasts_S256_S1x256 := by
  show StableHlo.after (List.flatten [hostOps0]) (fun b => m (c, b)) (Proc.devRef .tc main_v0) = _
  simp only [List.flatten_cons, List.flatten_nil, List.append_nil]
  after_results
  rfl

/-- Window 3 at every point: the bias, as one row. -/
theorem block3_apply (c : Dev nD) (t : Fin cfg0.N) (k : Fin 256) :
    iblk m c 3 t (ix2 0 k) = m ((c : Thread nD τ).loc main_arg2) (ix1 k) := by
  show V m c main_v0 ((win0_3.rect t).emb (ix2 0 k)) = _
  rw [V_main_v0]
  have e : (win0_3.rect t).emb (ix2 0 k) = (ix2 0 k : S1x256.Idx) := by
    obtain ⟨h0, h1⟩ := index3 t
    funext a
    apply Fin.ext
    rw [win0_3.rect_emb_val]
    match a with
    | ⟨0, _⟩ => show win0_3.index t 0 * 1 + 0 = 0; rw [h0]
    | ⟨1, _⟩ => show win0_3.index t 1 * 256 + k.val = k.val; rw [h1]; omega
  rw [e]
  pointwise

/-! ## The output array -/

/-- Two zero offsets, as a function. -/
theorem zeros2 : (![0, 0] : Fin 2 → Nat) = fun _ => 0 := funext fun a => by fin_cases a <;> rfl
/-- Three zero offsets, as a function. -/
theorem zeros3 : (![0, 0, 0] : Fin 3 → Nat) = fun _ => 0 := funext fun a => by fin_cases a <;> rfl
/-- Five zero offsets, as a function. -/
theorem zeros5 : (![0, 0, 0, 0, 0] : Fin 5 → Nat) = fun _ => 0 := funext fun a => by fin_cases a <;> rfl

/-- Point `t` writes back its block of `spread`: the body's one store goes through the whole staging buffer, the loads
    are of whole blocks, and an element of the block is an element of the array at row `32 t + r`. -/
theorem flushed_eq (c : Dev nD) (t : Fin cfg0.N) :
    (dats m 0 c).flushed 4 t = ((cfg0.win 4).blk t).view.read (Elt Ideal) (spread m c) := by
  show (cfg0.win 4).cut (grid0.coords t) ((dats m 0 c).after 4 t) = _
  rw [after0_4]
  unfold out0_4
  rw [View.canon_unit_zero zeros3, View.ld_unit_zero zeros2, View.ld_unit_zero zeros2, View.ld_unit_zero zeros5,
    View.ld_unit_zero zeros5]
  funext y
  obtain ⟨r, j, l, rfl⟩ : ∃ (r : Fin 32) (j l : Fin 256), y = (ix3 r j l : S32x256x256.Idx) :=
    ⟨y 0, y 1, y 2, by funext a; match a with | ⟨0, _⟩ => rfl | ⟨1, _⟩ => rfl | ⟨2, _⟩ => rfl⟩
  show k0_pay1 (k0_pay5 (iblk m c 2 t) (iblk m c 3 t) (iblk m c 0 t) (iblk m c 1 t))
      (k0_pay6 (iblk m c 2 t) (iblk m c 3 t) (iblk m c 1 t)) (ix3 r j l) = spread m c ((win0_4.rect t).emb (ix3 r j l))
  rw [stored_apply]
  have e : (win0_4.rect t).emb (ix3 r j l) = (ix3 (row t r) j l : S256x256x256.Idx) := by
    obtain ⟨h0, h1, h2⟩ := index4 t
    funext a
    apply Fin.ext
    rw [win0_4.rect_emb_val]
    match a with
    | ⟨0, _⟩ => show win0_4.index t 0 * 32 + r.val = t.val * 32 + r.val; rw [h0]
    | ⟨1, _⟩ => show win0_4.index t 1 * 256 + j.val = j.val; rw [h1]; omega
    | ⟨2, _⟩ => show win0_4.index t 2 * 256 + l.val = l.val; rw [h2]; omega
  rw [e]
  show _ = value _ _ _ (row t r) j l
  unfold value
  simp only [block0_apply, block1_apply, block2_apply, block3_apply]

/-- The eight blocks of 32 rows cover the 256 rows. -/
theorem cover (i : S256x256x256.Idx) :
    ∃ t : Fin cfg0.N, (cfg0.win 4).flush t = true ∧ i ∈ ((cfg0.win 4).blk t).view.set := by
  have hi0 : (i 0 : Nat) < 256 := (i 0).isLt
  have hi1 : (i 1 : Nat) < 256 := (i 1).isLt
  have hi2 : (i 2 : Nat) < 256 := (i 2).isLt
  have hN : grid0.N = 8 := N_0
  let t : Fin grid0.N := ⟨(i 0 : Nat) / 32, by omega⟩
  refine ⟨t, flush0_4 _, ?_⟩
  show i ∈ ((View.whole main_v1).slice (win0_4.rect t)).set
  rw [View.set_slice_whole, Rect.mem_set_unit]
  obtain ⟨h0, h1, h2⟩ := index4 t
  intro a
  match a with
  | ⟨0, _⟩ =>
    show win0_4.index t 0 * 32 ≤ (i 0 : Nat) ∧ (i 0 : Nat) < win0_4.index t 0 * 32 + 32
    rw [h0]; show (i 0 : Nat) / 32 * 32 ≤ (i 0 : Nat) ∧ (i 0 : Nat) < (i 0 : Nat) / 32 * 32 + 32; omega
  | ⟨1, _⟩ =>
    show win0_4.index t 1 * 256 ≤ (i 1 : Nat) ∧ (i 1 : Nat) < win0_4.index t 1 * 256 + 256
    rw [h1]; omega
  | ⟨2, _⟩ =>
    show win0_4.index t 2 * 256 ≤ (i 2 : Nat) ∧ (i 2 : Nat) < win0_4.index t 2 * 256 + 256
    rw [h2]; omega

/-- So the output array ends at `spread`. -/
theorem final (c : Dev nD) : (dats m 0 c).arrAt 4 cfg0.N = spread m c :=
  (dats m 0 c).arrAt_eq_of_cover 4 (spread m c) (fun t _ => flushed_eq m c t) cover

/-- The result of the kernel: the output array with a unit axis in front. -/
def result (c : Dev nD) : Buf (Elt Ideal) ((c : Thread nD τ).loc main_v2) :=
  broadcastInDim S1x256x256x256 ![1, 2, 3] bcast_S256x256x256_S1x256x256x256_1_2_3
    (spread m c : (⟨S256x256x256, .f32⟩ : BufTy).Contents (Elt Ideal))

/-- The host line after the region leaves the result there. -/
theorem tail_main_v2 (c : Dev nD) : Pipeline.afterTail₀ cfgs (dats m) 0 (V0 m) [hostOps1] c main_v2 = result m c := by
  have h := (dats m 0 c).withArrays_arrAt sharedIn0 (V0 m c) (A_eq m c) 4
  rw [final] at h
  unfold Pipeline.afterTail₀ result
  rw [← h]
  simp only [List.flatten_cons, List.flatten_nil, List.append_nil]
  after_results

/-- The run, read: the result buffer at `result`, the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v2 (Pipeline.mem_restRefs_of main_v2 (by decide) (by decide))).trans (tail_main_v2 m c), h.2 c⟩)
    (θ_run_and (run_main m ρ) (unchanged m ρ))

end Cert.KernelIdeal.Outer

end
-- ==== Proof.ReferenceValue.lean ====
/- The reference's result at an index. -/
module

public import proofs.«01_k».proof.Proof.Gen.ReferenceIdeal.Read
public import Idealize.ShloMosaic.Lib.Pointwise

@[expose] public section

noncomputable section

namespace Cert.ReferenceIdeal.Outer

open Cert.ReferenceIdeal Cert.ReferenceIdeal.Read Idealize.ShloMosaic
open scoped BigOperators

/-- The reference at `(i, j, c)`: both slices of `x` through the affine map `W`, `b`, multiplied and summed over the
    common middle index. -/
theorem result_apply (x : (⟨S1x2x256x256x128, .f32⟩ : BufTy).Contents (Elt Ideal)) (W : (⟨S128x256, .f32⟩ : BufTy).Contents (Elt Ideal))
    (b : (⟨S256, .f32⟩ : BufTy).Contents (Elt Ideal)) (i j c : Fin 256) :
    val_main_v17 (F := Ideal) x W b (ix4 0 i j c)
      = ∑ k : Fin 256, ((∑ f : Fin 128, x (ix5 0 0 i j f) * W (ix2 f k)) + b (ix1 k))
          * ((∑ g : Fin 128, x (ix5 0 1 k i g) * W (ix2 g c)) + b (ix1 c)) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]

end Cert.ReferenceIdeal.Outer

end
-- ==== Proof.Algebra.lean ====
/- The algebra that relates the two programs, free of any program text: one identity of finite sums of reals, and the
   same identity over the extended reals when every entry is a real. -/
module

public import Mathlib.Data.EReal.Operations
public import Mathlib.Algebra.BigOperators.Ring.Finset
public import Mathlib.Algebra.BigOperators.Group.Finset.Sigma

@[expose] public section

namespace Cert.Outer

open scoped BigOperators

variable {K A B : Type*} [Fintype K] [Fintype A] [Fintype B]

/-- A weighted sum over `k` of affine forms in `w` and `β` is one affine form: the weights are summed against the
    coefficients first. -/
theorem weighted_affine (u : K → ℝ) (y : K → B → ℝ) (w : B → ℝ) (β : ℝ) :
    ∑ k, u k * ((∑ g, y k g * w g) + β) = (∑ g, (∑ k, u k * y k g) * w g) + (∑ k, u k) * β := by
  simp only [mul_add, Finset.sum_add_distrib, ← Finset.sum_mul]
  congr 1
  simp only [Finset.mul_sum, Finset.sum_mul]
  rw [Finset.sum_comm]
  exact Finset.sum_congr rfl fun g _ => Finset.sum_congr rfl fun k _ => (mul_assoc _ _ _).symm

/-- The product of two affine maps, summed over their common index `k`, regrouped: the left map is applied last, to the
    sums over `k` already formed. -/
theorem regroup (a : A → ℝ) (W : A → K → ℝ) (b : K → ℝ) (y : K → B → ℝ) (w : B → ℝ) (β : ℝ) :
    ∑ f, a f * ((∑ g, (∑ k, y k g * W f k) * w g) + (∑ k, W f k) * β)
        + ((∑ g, (∑ k, b k * y k g) * w g) + (∑ k, b k) * β)
      = ∑ k, ((∑ f, a f * W f k) + b k) * ((∑ g, y k g * w g) + β) := by
  rw [← weighted_affine b y w β]
  have h : ∀ f, (∑ g, (∑ k, y k g * W f k) * w g) + (∑ k, W f k) * β
      = ∑ k, W f k * ((∑ g, y k g * w g) + β) := fun f => by
    rw [weighted_affine]
    simp only [mul_comm (W f _)]
  simp only [h, add_mul (∑ f, _), Finset.sum_add_distrib]
  congr 1
  simp only [Finset.mul_sum, Finset.sum_mul]
  rw [Finset.sum_comm]
  exact Finset.sum_congr rfl fun k _ => Finset.sum_congr rfl fun f _ => (mul_assoc _ _ _).symm

/-- An extended real is FINITE when it is neither infinity. -/
abbrev IsFinite (a : EReal) : Prop := a ≠ ⊤ ∧ a ≠ ⊥

/-- The inclusion of the reals takes finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `regroup` over the extended reals, where it needs every entry finite: a product there does not distribute over a
    sum that mixes the two infinities. -/
theorem regroup_of_finite (a : A → EReal) (W : A → K → EReal) (b : K → EReal) (y : K → B → EReal) (w : B → EReal) (β : EReal)
    (ha : ∀ f, IsFinite (a f)) (hW : ∀ f k, IsFinite (W f k)) (hb : ∀ k, IsFinite (b k)) (hy : ∀ k g, IsFinite (y k g))
    (hw : ∀ g, IsFinite (w g)) (hβ : IsFinite β) :
    ∑ f, a f * ((∑ g, (∑ k, y k g * W f k) * w g) + (∑ k, W f k) * β)
        + ((∑ g, (∑ k, b k * y k g) * w g) + (∑ k, b k) * β)
      = ∑ k, ((∑ f, a f * W f k) + b k) * ((∑ g, y k g * w g) + β) := by
  have ea : ∀ f, a f = ((a f).toReal : EReal) := fun f => (EReal.coe_toReal (ha f).1 (ha f).2).symm
  have eW : ∀ f k, W f k = ((W f k).toReal : EReal) := fun f k => (EReal.coe_toReal (hW f k).1 (hW f k).2).symm
  have eb : ∀ k, b k = ((b k).toReal : EReal) := fun k => (EReal.coe_toReal (hb k).1 (hb k).2).symm
  have ey : ∀ k g, y k g = ((y k g).toReal : EReal) := fun k g => (EReal.coe_toReal (hy k g).1 (hy k g).2).symm
  have ew : ∀ g, w g = ((w g).toReal : EReal) := fun g => (EReal.coe_toReal (hw g).1 (hw g).2).symm
  have eβ : β = (β.toReal : EReal) := (EReal.coe_toReal hβ.1 hβ.2).symm
  have key := congrArg (fun r : ℝ => (r : EReal)) (regroup (fun f => (a f).toReal) (fun f k => (W f k).toReal)
    (fun k => (b k).toReal) (fun k g => (y k g).toReal) (fun g => (w g).toReal) β.toReal)
  simp only [coe_sum, EReal.coe_add, EReal.coe_mul, ← ea, ← eW, ← eb, ← ey, ← ew, ← eβ] at key
  exact key

end Cert.Outer
-- ==== Proof.Finite.lean ====
/- The precondition, read: `finite_arguments` all ones says that no entry of the three arguments is an infinity. -/
module

public import proofs.«01_k».proof.Defs
public import proofs.«01_k».proof.Proof.Gen.Pre_finite_arguments
public import proofs.«01_k».proof.Proof.Algebra
public import Idealize.ShloMosaic.Lib.Pointwise

@[expose] public section

noncomputable section

namespace Cert.Outer

open Idealize.ShloMosaic

/-- The word the precondition compares with is `+∞`. -/
theorem ofBits_infinity : Ideal.ofBits .f32 0x7F800000#32 = ⊤ := by
  simp [Ideal.ofBits, Ideal.ieee]

/-- An extended real whose absolute value is below `+∞` is finite. -/
theorem isFinite_of_abs_lt (a : EReal) (h : max a (-a) < ⊤) : IsFinite a := by
  refine ⟨fun e => ?_, fun e => ?_⟩ <;> subst e <;> simp at h

/-- One entry of a comparison `|x| < +∞` that came out one. -/
theorem isFinite_of_cmp (a : EReal) (h : Ideal.cmp .olt (max a (-a)) (Ideal.ofBits .f32 0x7F800000#32) = 1#1) : IsFinite a := by
  refine isFinite_of_abs_lt a ?_
  rw [ofBits_infinity] at h
  by_contra hn
  simp [Ideal.cmp, hn] at h

open Cert.Pre_finite_arguments in
/-- Where the precondition is all ones, every entry of `x`, of `W` and of `b` is finite. -/
theorem finite_of_pre (x : FVec Ideal S1x2x256x256x128 .f32) (W : FVec Ideal S128x256 .f32) (b : FVec Ideal S256 .f32)
    (h : (fn x W b).1 = (fun _ => 1#1) ∧ (fn x W b).2.1 = (fun _ => 1#1) ∧ (fn x W b).2.2 = (fun _ => 1#1)) :
    (∀ i, IsFinite (x i)) ∧ (∀ i, IsFinite (W i)) ∧ ∀ i, IsFinite (b i) :=
  ⟨fun i => isFinite_of_cmp _ (congrFun h.1 i), fun i => isFinite_of_cmp _ (congrFun h.2.1 i),
    fun i => isFinite_of_cmp _ (congrFun h.2.2 i)⟩

end Cert.Outer

end
-- ==== Proof.Agree.lean ====
/- The two results are one array when the arguments are finite: the kernel's value at an index is the reference's sum
   regrouped. -/
module

public import proofs.«01_k».proof.Proof.KernelValue
public import proofs.«01_k».proof.Proof.ReferenceValue
public import proofs.«01_k».proof.Proof.Finite
public import proofs.«01_k».proof.Proof.Gen.ReferenceIdeal.Run
public import Idealize.ShloMosaic.Lib.Quiescent

@[expose] public section

noncomputable section

namespace Cert.Outer

open Idealize.ShloMosaic Idealize.ShloMosaic.TcCoe Idealize.SL.Sem
open Cert.KernelIdeal (S1x2x256x256x128 S128x256 S256 S1x256x256x256)

/-- At an index, for finite arguments, the kernel's value is the reference's. -/
theorem value_eq (x : Vec Ideal S1x2x256x256x128 .f32) (W : Vec Ideal S128x256 .f32) (b : Vec Ideal S256 .f32)
    (hx : ∀ i, IsFinite (x i)) (hW : ∀ i, IsFinite (W i)) (hb : ∀ i, IsFinite (b i)) (i j c : Fin 256) :
    Cert.KernelIdeal.Outer.value x W b i j c = Cert.ReferenceIdeal.Read.val_main_v17 (F := Ideal) x W b (ix4 0 i j c) := by
  rw [Cert.ReferenceIdeal.Outer.result_apply]
  exact regroup_of_finite (fun f : Fin 128 => x (ix5 0 0 i j f)) (fun (f : Fin 128) (k : Fin 256) => W (ix2 f k))
    (fun k : Fin 256 => b (ix1 k)) (fun (k : Fin 256) (g : Fin 128) => x (ix5 0 1 k i g)) (fun g : Fin 128 => W (ix2 g c)) (b (ix1 c))
    (fun _ => hx _) (fun _ _ => hW _) (fun _ => hb _) (fun _ _ => hx _) (fun _ => hW _) (hb _)

/-- The kernel's result read at an index. -/
theorem result_apply (m : (ℓ : Loc Cert.KernelIdeal.nD Cert.KernelIdeal.τ Cert.KernelIdeal.sig) → Buf (Elt Ideal) ℓ)
    (c : Dev Cert.KernelIdeal.nD) (i j l : Fin 256) :
    (Cert.KernelIdeal.Outer.result m c : S1x256x256x256.Idx → EReal) (ix4 0 i j l)
      = Cert.KernelIdeal.Outer.value
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) i j l := by
  unfold Cert.KernelIdeal.Outer.result
  pointwise
  rfl

/-- The kernel's result array is the reference's composed term of the kernel's arguments. -/
theorem result_eq (m : (ℓ : Loc Cert.KernelIdeal.nD Cert.KernelIdeal.τ Cert.KernelIdeal.sig) → Buf (Elt Ideal) ℓ)
    (hm : Cert.Pre_KernelIdeal_finite_arguments m) (c : Dev Cert.KernelIdeal.nD) :
    (Cert.KernelIdeal.Outer.result m c : S1x256x256x256.Idx → EReal)
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨hx, hW, hb⟩ := finite_of_pre _ _ _ (hm c)
  refine funext fun y : S1x256x256x256.Idx => ?_
  obtain ⟨i, j, l, rfl⟩ : ∃ i j l : Fin 256, y = ix4 0 i j l := ⟨y 1, y 2, y 3, by
    funext a
    match a with
    | ⟨0, _⟩ => exact Fin.ext (Nat.lt_one_iff.mp (y 0).isLt)
    | ⟨1, _⟩ => rfl
    | ⟨2, _⟩ => rfl
    | ⟨3, _⟩ => rfl⟩
  exact (result_apply m c i j l).trans (value_eq _ _ _ hx hW hb i j l)

/-- The algebraic claim: from memories agreeing on finite arguments both programs end at the kernel's result. -/
theorem agree : Cert.algebraic_KernelIdeal_ReferenceIdeal_pre_finite_arguments :=
  fun m g m' g' hm hargs =>
    ⟨Cert.KernelIdeal.Outer.result m, Cert.KernelIdeal.Outer.run m g,
      (θ_run Cert.ReferenceIdeal.defs _ _).mono (fun _ h c =>
        ⟨((h c).1.trans (Cert.ReferenceIdeal.Read.val_main_v17_eq _ _ _)).trans (by
            rw [(hargs c).1, (hargs c).2.1, (hargs c).2.2]
            exact (result_eq m hm c).symm),
          (h c).2⟩)
        (Cert.ReferenceIdeal.Value.run m' g')⟩

/-- The reference runs, leaves its arguments, and ends with every counter at zero: it has no semaphores. -/
theorem reference_frame : Cert.quiescent_ReferenceIdeal :=
  fun m g _ => (θ_run Cert.ReferenceIdeal.defs _ _).mono
    (fun r h => ⟨fun c => (h c).2, Idealize.ShloMosaic.sem_eq_zero_of_no_sems (by decide) r.2⟩)
    (Cert.ReferenceIdeal.Value.run m g)

end Cert.Outer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_arguments
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything the certificate claims: the three frames (the last two also under the precondition, which they do not
    use), the idealization (no operation was rewritten), and the algebraic claim of `Agree.lean`. -/
theorem claim : Cert.Claim :=
  ⟨Cert.Kernel.Gen.facts, Cert.KernelIdeal.Gen.facts, Cert.ReferenceIdeal.Gen.facts, Cert.Pre_finite_arguments.Gen.facts,
    fun m g _ => Cert.Kernel.Gen.frame m g,
    fun m g _ => Cert.KernelIdeal.Gen.frame m g,
    fun m g _ => Cert.KernelIdeal.Gen.frame m g,
    Cert.Outer.reference_frame,
    fun m g _ => Cert.Outer.reference_frame m g trivial,
    trivial,
    Cert.Outer.agree⟩

end Cert.Proof

end
